-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S16384x2048 : Shape := ⟨2, ![16384, 2048]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S16384x2048 .f32) (main_arg1 : FVec F S16384x2048 .f32) (main_arg2 : IVec S128 32) (main_arg3 : FVec F S128 .f32) (main_arg4 : IVec S128 32) : IVec S128 1 :=
  let main_c : IVec S_ 32 := constantI S_ 32 0#32
  let main_v0 : IVec S128 32 := broadcastInDim S128 ![] bcast_S_S128 main_c
  let main_v1 : IVec S128 1 := cmpi .sge main_arg2 main_v0
  let main_c_0 : IVec S_ 32 := constantI S_ 32 2048#32
  let main_v2 : IVec S128 32 := broadcastInDim S128 ![] bcast_S_S128 main_c_0
  let main_v3 : IVec S128 1 := cmpi .slt main_arg2 main_v2
  let main_v4 : IVec S128 1 := andi main_v1 main_v3
  main_v4
-- ==== Kernel.lean ====
abbrev S16384x2048 : Shape := ⟨2, ![16384, 2048]⟩
abbrev S128 : Shape := ⟨1, ![128]⟩
abbrev S1x128 : Shape := ⟨2, ![1, 128]⟩
abbrev S1x1 : Shape := ⟨2, ![1, 1]⟩
abbrev S512x2048 : Shape := ⟨2, ![512, 2048]⟩
abbrev S2048x128 : Shape := ⟨2, ![2048, 128]⟩
abbrev S32x128 : Shape := ⟨2, ![32, 128]⟩
abbrev S512x128 : Shape := ⟨2, ![512, 128]⟩
abbrev S512x32 : Shape := ⟨2, ![512, 32]⟩
abbrev S1x512x32 : Shape := ⟨3, ![1, 512, 32]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 13
  | .smem => 2
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S128, .f32⟩
  | .hbm, ⟨4, _⟩ => ⟨S128, .i32⟩
  | .hbm, ⟨5, _⟩ => ⟨S1x128, .f32⟩
  | .hbm, ⟨6, _⟩ => ⟨S1x128, .i32⟩
  | .hbm, ⟨7, _⟩ => ⟨S1x128, .i32⟩
  | .hbm, ⟨8, _⟩ => ⟨S16384x2048, .f32⟩
  | .hbm, ⟨9, _⟩ => ⟨S16384x2048, .f32⟩
  | .hbm, ⟨10, _⟩ => ⟨S1x1, .f32⟩
  | .hbm, ⟨11, _⟩ => ⟨S_, .f32⟩
  | .local _ .vmem, ⟨0, _⟩ => ⟨S1x128, .f32⟩
  | .local _ .vmem, ⟨1, _⟩ => ⟨S1x128, .i32⟩
  | .local _ .vmem, ⟨2, _⟩ => ⟨S1x128, .i32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S2048x128, .f32⟩
  | .local _ .vmem, ⟨12, _⟩ => ⟨S32x128, .f32⟩
  | .local _ .smem, ⟨0, _⟩ => ⟨S1x1, .f32⟩
  | .local _ .smem, ⟨1, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg7_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x2048 : Shape := ⟨2, ![16384, 2048]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S16384x128 : Shape := ⟨2, ![16384, 128]⟩
abbrev S1x128 : Shape := ⟨2, ![1, 128]⟩
abbrev S128x16384 : Shape := ⟨2, ![128, 16384]⟩
abbrev S32x16384 : Shape := ⟨2, ![32, 16384]⟩
abbrev S16384x32 : Shape := ⟨2, ![16384, 32]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S128, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S128x1, .i32⟩
  | .hbm, ⟨13, _⟩ => ⟨S1, .i32⟩
  | .hbm, ⟨14, _⟩ => ⟨S_, .i32⟩
  | .hbm, ⟨15, _⟩ => ⟨S128x1, .i32⟩
  | .hbm, ⟨16, _⟩ => ⟨S128x1, .i1⟩
  | .hbm, ⟨17, _⟩ => ⟨S1x1, .i32⟩
  | .hbm, ⟨18, _⟩ => ⟨S128x1, .i32⟩
  | .hbm, ⟨19, _⟩ => ⟨S128x1, .i1⟩
  | .hbm, ⟨20, _⟩ => ⟨S128x1, .i1⟩
  | .hbm, ⟨21, _⟩ => ⟨S_, .i1⟩
  | .hbm, ⟨22, _⟩ => ⟨S128, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S1x1, .i32⟩
  | .hbm, ⟨41, _⟩ => ⟨S128x1, .i32⟩
  | .hbm, ⟨42, _⟩ => ⟨S128x1, .i1⟩
  | .hbm, ⟨43, _⟩ => ⟨S128x1, .i1⟩
  | .hbm, ⟨44, _⟩ => ⟨S_, .i1⟩
  | .hbm, ⟨45, _⟩ => ⟨S128, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S128x16384, .f32⟩
  | .hbm, ⟨56, _⟩ => ⟨S_, .f32⟩
  | .hbm, ⟨57, _⟩ => ⟨S32x16384, .f32⟩
  | .hbm, ⟨58, _⟩ => ⟨S128x1, .i32⟩
  | .hbm, ⟨59, _⟩ => ⟨S32x16384, .f32⟩
  | .hbm, ⟨60, _⟩ => ⟨S16384x32, .f32⟩
  | .hbm, ⟨61, _⟩ => ⟨S16384x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_0 : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩

abbrev nD : Nat := 1
abbrev τ : Topo := Topo.v7x

variable {F : FTy → Type} [FloatOps F]
-- ==== Proof.Point.lean ====
/-
  What the kernel's body leaves behind at one grid point, for any reading of the floats.

  The grid has 32 points. At each, the body copies its 512-row blocks of `c` and `s` to the two array outputs, and adds
  one number (the block's contribution to the mean) to a running word. At the first point it also fills the two
  one-hot tables and clears the running word; at the last it scales the running word into the scalar output.
  Each lemma reads one buffer after the body: it is the payload of the last covering store, at the blocks the body read.
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

namespace Cert.KernelIdeal.Arctan

open Cert.KernelIdeal Cert.KernelIdeal.Gen Idealize.ShloMosaic Idealize.ShloMosaic.TcCoe Idealize.SL.Sem

variable {F : FTy → Type} [FloatOps F]

/-- Two zero offsets, however written. -/
theorem zero_offsets : (![0, 0] : Fin 2 → Nat) = fun _ => 0 := funext fun a => by fin_cases a <;> rfl

/-- The one index of a one-word block. -/
def only : S1x1.Idx := fun a => ⟨0, by fin_cases a <;> decide⟩

/-- A one-word block has one index. -/
theorem one_index (x y : S1x1.Idx) : x = y := by
  funext a
  apply Fin.ext
  have hx := (x a).isLt
  have hy := (y a).isLt
  have : S1x1.size a = 1 := by fin_cases a <;> rfl
  omega

section Cases

variable (d : Dev nD) (i : grid0.Coords)
  (a1 : Memref sig .tc .vmem S1x128 .f32) (h1 : a1.IsWhole) (a2 : Memref sig .tc .vmem S1x128 .i32) (h2 : a2.IsWhole)
  (a3 : Memref sig .tc .vmem S1x128 .i32) (h3 : a3.IsWhole) (a4 : Memref sig .tc .vmem S512x2048 .f32) (h4 : a4.IsWhole)
  (a5 : Memref sig .tc .vmem S512x2048 .f32) (h5 : a5.IsWhole) (a6 : Memref sig .tc .vmem S512x2048 .f32) (h6 : a6.IsWhole)
  (a7 : Memref sig .tc .vmem S512x2048 .f32) (h7 : a7.IsWhole) (a8 : Memref sig .tc .smem S1x1 .f32) (h8 : a8.IsWhole)
  (a9 : Memref sig .tc .vmem S2048x128 .f32) (h9 : a9.IsWhole) (a10 : Memref sig .tc .vmem S32x128 .f32) (h10 : a10.IsWhole)
  (a11 : Memref sig .tc .smem S1x1 .f32) (h11 : a11.IsWhole)
  (sgn : Vec F S1x128 .f32) (ind row : Vec F S1x128 .i32) (cb sb : Vec F S512x2048 .f32)
  (g : Vec F S2048x128 .f32) (p : Vec F S32x128 .f32) (acc : Vec F S1x1 .f32)

/-- First point: the copy of the `c` block. -/
theorem first_c (hc0 : cond0_0 i) (hc1 : ¬cond0_1 i) :
    out0_A_5 d i a1 h1 a2 h2 a3 h3 a4 h4 a5 h5 a6 h6 a7 h7 a8 h8 a9 h9 a10 h10 a11 h11 hc0 hc1 sgn ind row cb sb = cb := by
  unfold out0_A_5
  rw [View.read_writes_eq_canon _ _ _ (cover0_A_5 d i a1 h1 a2 h2 a3 h3 a4 h4 a5 h5 a6 h6 a7 h7 a8 h8 a9 h9 a10 h10 a11 h11 hc0 hc1 sgn ind row cb sb)]
  unfold kernelRun0_A
  dsimp only
  sl_unfold_words
  rw [View.canon_unit_zero zero_offsets]
  simp only [View.readAt_eq_ld, h4.read_unread, View.ld_unit_zero (S := S512x2048) zero_offsets]

/-- First point: the copy of the `s` block. -/
theorem first_s (hc0 : cond0_0 i) (hc1 : ¬cond0_1 i) :
    out0_A_6 d i a1 h1 a2 h2 a3 h3 a4 h4 a5 h5 a6 h6 a7 h7 a8 h8 a9 h9 a10 h10 a11 h11 hc0 hc1 sgn ind row cb sb = sb := by
  unfold out0_A_6
  rw [View.read_writes_eq_canon _ _ _ (cover0_A_6 d i a1 h1 a2 h2 a3 h3 a4 h4 a5 h5 a6 h6 a7 h7 a8 h8 a9 h9 a10 h10 a11 h11 hc0 hc1 sgn ind row cb sb)]
  unfold kernelRun0_A
  dsimp only
  sl_unfold_words
  rw [View.canon_unit_zero zero_offsets]
  simp only [View.readAt_eq_ld, h5.read_unread, View.ld_unit_zero (S := S512x2048) zero_offsets]

/-- First point: the table that selects columns. -/
theorem first_gather (hc0 : cond0_0 i) (hc1 : ¬cond0_1 i) :
    sout0_A_0 d i a1 h1 a2 h2 a3 h3 a4 h4 a5 h5 a6 h6 a7 h7 a8 h8 a9 h9 a10 h10 a11 h11 hc0 hc1 sgn ind row cb sb = k0_pay1 ind := by
  unfold sout0_A_0
  rw [View.read_writes_eq_canon _ _ _ (scover0_A_0 d i a1 h1 a2 h2 a3 h3 a4 h4 a5 h5 a6 h6 a7 h7 a8 h8 a9 h9 a10 h10 a11 h11 hc0 hc1 sgn ind row cb sb)]
  unfold kernelRun0_A
  dsimp only
  sl_unfold_words
  rw [View.canon_unit_zero zero_offsets]
  simp only [View.readAt_eq_ld, h2.read_unread, View.ld_unit_zero (S := S1x128) zero_offsets]

/-- First point: the table that adds edges into cycles. -/
theorem first_cycle (hc0 : cond0_0 i) (hc1 : ¬cond0_1 i) :
    sout0_A_1 d i a1 h1 a2 h2 a3 h3 a4 h4 a5 h5 a6 h6 a7 h7 a8 h8 a9 h9 a10 h10 a11 h11 hc0 hc1 sgn ind row cb sb = k0_pay2 row := by
  unfold sout0_A_1
  rw [View.read_writes_eq_canon _ _ _ (scover0_A_1 d i a1 h1 a2 h2 a3 h3 a4 h4 a5 h5 a6 h6 a7 h7 a8 h8 a9 h9 a10 h10 a11 h11 hc0 hc1 sgn ind row cb sb)]
  unfold kernelRun0_A
  dsimp only
  sl_unfold_words
  rw [View.canon_unit_zero zero_offsets]
  simp only [View.readAt_eq_ld, h3.read_unread, View.ld_unit_zero (S := S1x128) zero_offsets]

/-- First point: the running word, cleared and then given this block's contribution. -/
theorem first_acc (hc0 : cond0_0 i) (hc1 : ¬cond0_1 i) :
    sout0_A_2 d i a1 h1 a2 h2 a3 h3 a4 h4 a5 h5 a6 h6 a7 h7 a8 h8 a9 h9 a10 h10 a11 h11 hc0 hc1 sgn ind row cb sb
      = fun _ => k0_pay3 cb sb (k0_pay1 ind) sgn (k0_pay2 row) (Scalar.ofBits .f32 0x00000000#32) := by
  unfold sout0_A_2
  rw [View.read_writes_eq_canon _ _ _ (scover0_A_2 d i a1 h1 a2 h2 a3 h3 a4 h4 a5 h5 a6 h6 a7 h7 a8 h8 a9 h9 a10 h10 a11 h11 hc0 hc1 sgn ind row cb sb)]
  unfold kernelRun0_A
  dsimp only
  sl_unfold_words
  rw [View.canon_cons_unit_zero (S := S1x1) zero_offsets]
  simp only [View.readAt_eq_ld, h1.read_unread, h2.read_unread, h3.read_unread, h4.read_unread, h5.read_unread,
    View.ld_unit_zero (S := S1x128) zero_offsets, View.ld_unit_zero (S := S512x2048) zero_offsets,
    View.readCov_unit_zero (S := S2048x128) _ zero_offsets, View.readCov_unit_zero (S := S32x128) _ zero_offsets,
    View.readCov_unit_zero (S := S1x1) _ zero_offsets]
  rfl

/-- A middle point: the copy of the `c` block. -/
theorem mid_c (hc0 : ¬cond0_0 i) (hc1 : ¬cond0_1 i) :
    out0_B_5 d i a1 h1 a2 h2 a3 h3 a4 h4 a5 h5 a6 h6 a7 h7 a8 h8 a9 h9 a10 h10 a11 h11 hc0 hc1 sgn ind row cb sb g p acc = cb := by
  unfold out0_B_5
  rw [View.read_writes_eq_canon _ _ _ (cover0_B_5 d i a1 h1 a2 h2 a3 h3 a4 h4 a5 h5 a6 h6 a7 h7 a8 h8 a9 h9 a10 h10 a11 h11 hc0 hc1 sgn ind row cb sb g p acc)]
  unfold kernelRun0_B
  dsimp only
  sl_unfold_words
  rw [View.canon_unit_zero zero_offsets]
  simp only [View.readAt_eq_ld, h4.read_unread, View.ld_unit_zero (S := S512x2048) zero_offsets]

/-- A middle point: the copy of the `s` block. -/
theorem mid_s (hc0 : ¬cond0_0 i) (hc1 : ¬cond0_1 i) :
    out0_B_6 d i a1 h1 a2 h2 a3 h3 a4 h4 a5 h5 a6 h6 a7 h7 a8 h8 a9 h9 a10 h10 a11 h11 hc0 hc1 sgn ind row cb sb g p acc = sb := by
  unfold out0_B_6
  rw [View.read_writes_eq_canon _ _ _ (cover0_B_6 d i a1 h1 a2 h2 a3 h3 a4 h4 a5 h5 a6 h6 a7 h7 a8 h8 a9 h9 a10 h10 a11 h11 hc0 hc1 sgn ind row cb sb g p acc)]
  unfold kernelRun0_B
  dsimp only
  sl_unfold_words
  rw [View.canon_unit_zero zero_offsets]
  simp only [View.readAt_eq_ld, h5.read_unread, View.ld_unit_zero (S := S512x2048) zero_offsets]

/-- A middle point: the running word gains this block's contribution. -/
theorem mid_acc (hc0 : ¬cond0_0 i) (hc1 : ¬cond0_1 i) :
    sout0_B_2 d i a1 h1 a2 h2 a3 h3 a4 h4 a5 h5 a6 h6 a7 h7 a8 h8 a9 h9 a10 h10 a11 h11 hc0 hc1 sgn ind row cb sb g p acc = fun _ => k0_pay3 cb sb g sgn p (acc only) := by
  unfold sout0_B_2
  rw [View.read_writes_eq_canon _ _ _ (scover0_B_2 d i a1 h1 a2 h2 a3 h3 a4 h4 a5 h5 a6 h6 a7 h7 a8 h8 a9 h9 a10 h10 a11 h11 hc0 hc1 sgn ind row cb sb g p acc)]
  unfold kernelRun0_B
  dsimp only
  sl_unfold_words
  rw [View.canon_cons_unit_zero (S := S1x1) zero_offsets]
  simp only [View.readAt_eq_ld, h1.read_unread, h4.read_unread, h5.read_unread, h9.read_unread, h10.read_unread,
    h11.read_unread, View.ld_unit_zero (S := S1x128) zero_offsets, View.ld_unit_zero (S := S512x2048) zero_offsets,
    View.ld_unit_zero (S := S2048x128) zero_offsets, View.ld_unit_zero (S := S32x128) zero_offsets,
    View.ld_unit_zero (S := S1x1) zero_offsets]
  exact funext fun _ => congrArg (k0_pay3 cb sb g sgn p) (congrArg acc (one_index _ _))

/-- The last point: the copy of the `c` block. -/
theorem last_c (hc0 : ¬cond0_0 i) (hc1 : cond0_1 i) :
    out0_C_5 d i a1 h1 a2 h2 a3 h3 a4 h4 a5 h5 a6 h6 a7 h7 a8 h8 a9 h9 a10 h10 a11 h11 hc0 hc1 sgn ind row cb sb g p acc = cb := by
  unfold out0_C_5
  rw [View.read_writes_eq_canon _ _ _ (cover0_C_5 d i a1 h1 a2 h2 a3 h3 a4 h4 a5 h5 a6 h6 a7 h7 a8 h8 a9 h9 a10 h10 a11 h11 hc0 hc1 sgn ind row cb sb g p acc)]
  unfold kernelRun0_C
  dsimp only
  sl_unfold_words
  rw [View.canon_unit_zero zero_offsets]
  simp only [View.readAt_eq_ld, h4.read_unread, View.ld_unit_zero (S := S512x2048) zero_offsets]

/-- The last point: the copy of the `s` block. -/
theorem last_s (hc0 : ¬cond0_0 i) (hc1 : cond0_1 i) :
    out0_C_6 d i a1 h1 a2 h2 a3 h3 a4 h4 a5 h5 a6 h6 a7 h7 a8 h8 a9 h9 a10 h10 a11 h11 hc0 hc1 sgn ind row cb sb g p acc = sb := by
  unfold out0_C_6
  rw [View.read_writes_eq_canon _ _ _ (cover0_C_6 d i a1 h1 a2 h2 a3 h3 a4 h4 a5 h5 a6 h6 a7 h7 a8 h8 a9 h9 a10 h10 a11 h11 hc0 hc1 sgn ind row cb sb g p acc)]
  unfold kernelRun0_C
  dsimp only
  sl_unfold_words
  rw [View.canon_unit_zero zero_offsets]
  simp only [View.readAt_eq_ld, h5.read_unread, View.ld_unit_zero (S := S512x2048) zero_offsets]

/-- The last point: the running word gains this block's contribution. -/
theorem last_acc (hc0 : ¬cond0_0 i) (hc1 : cond0_1 i) :
    sout0_C_2 d i a1 h1 a2 h2 a3 h3 a4 h4 a5 h5 a6 h6 a7 h7 a8 h8 a9 h9 a10 h10 a11 h11 hc0 hc1 sgn ind row cb sb g p acc = fun _ => k0_pay3 cb sb g sgn p (acc only) := by
  unfold sout0_C_2
  rw [View.read_writes_eq_canon _ _ _ (scover0_C_2 d i a1 h1 a2 h2 a3 h3 a4 h4 a5 h5 a6 h6 a7 h7 a8 h8 a9 h9 a10 h10 a11 h11 hc0 hc1 sgn ind row cb sb g p acc)]
  unfold kernelRun0_C
  dsimp only
  sl_unfold_words
  rw [View.canon_cons_unit_zero (S := S1x1) zero_offsets]
  simp only [View.readAt_eq_ld, h1.read_unread, h4.read_unread, h5.read_unread, h9.read_unread, h10.read_unread,
    h11.read_unread, View.ld_unit_zero (S := S1x128) zero_offsets, View.ld_unit_zero (S := S512x2048) zero_offsets,
    View.ld_unit_zero (S := S2048x128) zero_offsets, View.ld_unit_zero (S := S32x128) zero_offsets,
    View.ld_unit_zero (S := S1x1) zero_offsets]
  exact funext fun _ => congrArg (k0_pay3 cb sb g sgn p) (congrArg acc (one_index _ _))

/-- The last point: the scalar output is the running word, this block included, scaled. -/
theorem last_out (hc0 : ¬cond0_0 i) (hc1 : cond0_1 i) :
    out0_C_7 d i a1 h1 a2 h2 a3 h3 a4 h4 a5 h5 a6 h6 a7 h7 a8 h8 a9 h9 a10 h10 a11 h11 hc0 hc1 sgn ind row cb sb g p acc = fun _ => k0_pay4 (k0_pay3 cb sb g sgn p (acc only)) := by
  unfold out0_C_7
  rw [View.read_writes_eq_canon _ _ _ (cover0_C_7 d i a1 h1 a2 h2 a3 h3 a4 h4 a5 h5 a6 h6 a7 h7 a8 h8 a9 h9 a10 h10 a11 h11 hc0 hc1 sgn ind row cb sb g p acc)]
  unfold kernelRun0_C
  dsimp only
  sl_unfold_words
  rw [View.canon_cons_unit_zero (S := S1x1) zero_offsets]
  simp only [View.readAt_eq_ld, h1.read_unread, h4.read_unread, h5.read_unread, h9.read_unread, h10.read_unread,
    h11.read_unread, View.ld_unit_zero (S := S1x128) zero_offsets, View.ld_unit_zero (S := S512x2048) zero_offsets,
    View.ld_unit_zero (S := S2048x128) zero_offsets, View.ld_unit_zero (S := S32x128) zero_offsets,
    View.ld_unit_zero (S := S1x1) zero_offsets, View.readCov_unit_zero (S := S1x1) _ zero_offsets]
  exact funext fun _ => congrArg k0_pay4 (congrArg (k0_pay3 cb sb g sgn p) (congrArg acc (one_index _ _)))

end Cases

end Cert.KernelIdeal.Arctan

end
-- ==== Proof.Running.lean ====
/-
  What the buffers hold after each grid point: the copies of the two blocks, the two tables as the first point filled
  them, the running word, and after the last point the scaled scalar. By induction on the point.
-/
module

public import proofs.«01_k».proof.Proof.Point

@[expose] public section

noncomputable section

namespace Cert.KernelIdeal.Arctan

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The grid has a first point. -/
theorem point_zero : 0 < cfg0.N := by rw [show cfg0.N = 32 from N_0]; decide

/-- The table that selects columns, as the first point fills it. -/
abbrev gatherTable (d : Dev nD) : Vec F S2048x128 .f32 := k0_pay1 (iblk m d 1 ⟨0, point_zero⟩)

/-- The table that adds edges into cycles, as the first point fills it. -/
abbrev cycleTable (d : Dev nD) : Vec F S32x128 .f32 := k0_pay2 (iblk m d 2 ⟨0, point_zero⟩)

/-- The running word after the body at point `t`, from what it was before. -/
abbrev addBlock (d : Dev nD) (t : Fin cfg0.N) (x : Elt F .f32) : F .f32 :=
  k0_pay3 (iblk m d 3 t) (iblk m d 4 t) (gatherTable m d) (iblk m d 0 t) (cycleTable m d) x

/-- The running word after point `n`: from zero, each block's contribution added in turn. -/
def running (d : Dev nD) : (n : ℕ) → n < cfg0.N → F .f32
  | 0, h => addBlock m d ⟨0, h⟩ (Scalar.ofBits .f32 0x00000000#32)
  | n + 1, h => addBlock m d ⟨n + 1, h⟩ (running d n (Nat.lt_of_succ_lt h))

/-- The point before. -/
theorem before_lt (t : Fin cfg0.N) : t.val - 1 < cfg0.N := Nat.lt_of_le_of_lt (Nat.sub_le _ _) t.isLt

/-- At the first point the carried buffers are filled. -/
theorem carried_first (d : Dev nD) (t : Fin cfg0.N) (h0 : t.val % 32 = 0) (h1 : ¬t.val % 32 = 31) :
    (outsAt0 m d t.val t.isLt).2.2.2
      = (k0_pay1 (iblk m d 1 t), k0_pay2 (iblk m d 2 t), fun _ => k0_pay3 (iblk m d 3 t) (iblk m d 4 t)
          (k0_pay1 (iblk m d 1 t)) (iblk m d 0 t) (k0_pay2 (iblk m d 2 t)) (Scalar.ofBits .f32 0x00000000#32)) := by
  rw [outsAt0_A m d t h0 h1]
  dsimp only
  rw [first_gather, first_cycle, first_acc]

/-- At a later point the tables stay and the running word gains the block's contribution. -/
theorem carried_later (d : Dev nD) (t : Fin cfg0.N) (h0 : ¬t.val % 32 = 0) (g : Vec F S2048x128 .f32)
    (p : Vec F S32x128 .f32) (w : F .f32) (hb : (outsAt0 m d (t.val - 1) (before_lt t)).2.2.2 = (g, p, fun _ => w)) :
    (outsAt0 m d t.val t.isLt).2.2.2
      = (g, p, fun _ => k0_pay3 (iblk m d 3 t) (iblk m d 4 t) g (iblk m d 0 t) p w) := by
  by_cases h1 : t.val % 32 = 31
  · rw [outsAt0_C m d t h0 h1]
    dsimp only
    rw [last_acc, hb]
    rfl
  · rw [outsAt0_B m d t h0 h1]
    dsimp only
    rw [mid_acc, hb]
    rfl

/-- After any point the carried buffers hold the two tables and the running word. -/
theorem carried (d : Dev nD) : ∀ (n : ℕ) (h : n < cfg0.N),
    (outsAt0 m d n h).2.2.2 = (gatherTable m d, cycleTable m d, fun _ => running m d n h)
  | 0, h => carried_first m d ⟨0, h⟩ (Nat.zero_mod _) (by simp)
  | n + 1, h => by
    have hN : cfg0.N = 32 := N_0
    have h0 : ¬(⟨n + 1, h⟩ : Fin cfg0.N).val % 32 = 0 := by dsimp only; omega
    exact carried_later m d ⟨n + 1, h⟩ h0 _ _ _ (carried d n (Nat.lt_of_succ_lt h))

/-- At every point the block written back to the first output is the block of `c` read there. -/
theorem copied_c (d : Dev nD) (t : Fin cfg0.N) : (outsAt0 m d t.val t.isLt).1 = iblk m d 3 t := by
  by_cases h0 : t.val % 32 = 0
  · have h1 : ¬t.val % 32 = 31 := by omega
    rw [outsAt0_A m d t h0 h1]
    dsimp only
    rw [first_c]
  · by_cases h1 : t.val % 32 = 31
    · rw [outsAt0_C m d t h0 h1]
      dsimp only
      rw [last_c]
    · rw [outsAt0_B m d t h0 h1]
      dsimp only
      rw [mid_c]

/-- At every point the block written back to the second output is the block of `s` read there. -/
theorem copied_s (d : Dev nD) (t : Fin cfg0.N) : (outsAt0 m d t.val t.isLt).2.1 = iblk m d 4 t := by
  by_cases h0 : t.val % 32 = 0
  · have h1 : ¬t.val % 32 = 31 := by omega
    rw [outsAt0_A m d t h0 h1]
    dsimp only
    rw [first_s]
  · by_cases h1 : t.val % 32 = 31
    · rw [outsAt0_C m d t h0 h1]
      dsimp only
      rw [last_s]
    · rw [outsAt0_B m d t h0 h1]
      dsimp only
      rw [mid_s]

/-- At the last point the scalar output's block holds the running word, scaled. -/
theorem scalar_last (d : Dev nD) (t : Fin cfg0.N) (h1 : t.val % 32 = 31) (w : F .f32)
    (hw : (outsAt0 m d t.val t.isLt).2.2.2.2.2 = fun _ => w) :
    (outsAt0 m d t.val t.isLt).2.2.1 = fun _ => k0_pay4 w := by
  have h0 : ¬t.val % 32 = 0 := by omega
  rw [outsAt0_C m d t h0 h1] at hw ⊢
  dsimp only at hw ⊢
  rw [last_acc] at hw
  rw [last_out]
  funext x
  exact congrArg k0_pay4 (congrFun hw x)

/-- At the last point the scalar output's block holds the scaled running word. -/
theorem scalar_block (d : Dev nD) (t : Fin cfg0.N) (h1 : t.val % 32 = 31) :
    (outsAt0 m d t.val t.isLt).2.2.1 = fun _ => k0_pay4 (running m d t.val t.isLt) :=
  scalar_last m d t h1 _ (by rw [carried m d t.val t.isLt])

end Cert.KernelIdeal.Arctan

end
-- ==== Proof.Final.lean ====
/-
  What the result arrays hold after the whole run: the first is the argument `c`, the second the argument `s`, the
  third the one word that the last point wrote.
-/
module

public import proofs.«01_k».proof.Proof.Running

@[expose] public section

noncomputable section

namespace Cert.KernelIdeal.Arctan

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The row of blocks a point's `c` input and output stand at: the point's own number. -/
theorem block_row (t : Fin grid0.N) :
    win0_3.index t 0 = t.val ∧ win0_3.index t 1 = 0 ∧ win0_4.index t 0 = t.val ∧ win0_4.index t 1 = 0
      ∧ win0_5.index t 0 = t.val ∧ win0_5.index t 1 = 0 ∧ win0_6.index t 0 = t.val ∧ win0_6.index t 1 = 0 := by
  revert t
  decide +kernel

/-- The block of `c` at point `t` is rows `512 t …` of the argument. -/
theorem c_block (d : Dev nD) (t : Fin cfg0.N) (y : S512x2048.Idx) (z : S16384x2048.Idx)
    (h0 : (z 0).val = 512 * t.val + (y 0).val) (h1 : (z 1).val = (y 1).val) :
    (iblk m d 3 t : Vec F S512x2048 .f32) y = m ((d : Thread nD τ).loc main_arg0) z := by
  unfold iblk
  rw [View.read_apply]
  show V m d main_arg0 _ = m (d.tc.loc main_arg0) _
  rw [V_main_arg0]
  congr 1
  funext a
  apply Fin.ext
  have hi := block_row t
  match a with
  | ⟨0, _⟩ => show win0_3.index t 0 * 512 + 1 * (y 0).val = (z 0).val; rw [hi.1, h0]; omega
  | ⟨1, _⟩ => show win0_3.index t 1 * 2048 + 1 * (y 1).val = (z 1).val; rw [hi.2.1, h1]; omega

/-- The block of `s` at point `t` is rows `512 t …` of the argument. -/
theorem s_block (d : Dev nD) (t : Fin cfg0.N) (y : S512x2048.Idx) (z : S16384x2048.Idx)
    (h0 : (z 0).val = 512 * t.val + (y 0).val) (h1 : (z 1).val = (y 1).val) :
    (iblk m d 4 t : Vec F S512x2048 .f32) y = m ((d : Thread nD τ).loc main_arg1) z := by
  unfold iblk
  rw [View.read_apply]
  show V m d main_arg1 _ = m (d.tc.loc main_arg1) _
  rw [V_main_arg1]
  congr 1
  funext a
  apply Fin.ext
  have hi := block_row t
  match a with
  | ⟨0, _⟩ => show win0_4.index t 0 * 512 + 1 * (y 0).val = (z 0).val; rw [hi.2.2.1, h0]; omega
  | ⟨1, _⟩ => show win0_4.index t 1 * 2048 + 1 * (y 1).val = (z 1).val; rw [hi.2.2.2.1, h1]; omega

/-- The signs the kernel is given: the argument, with a leading axis of one. -/
theorem signs_row (d : Dev nD) (y : S1x128.Idx) (z : S128.Idx) (h : (z 0).val = (y 1).val) :
    (V m d main_v0 : Vec F S1x128 .f32) y = m ((d : Thread nD τ).loc main_arg3) z := by
  have e : V m d main_v0 = fun i => shapeCast S1x128 (m ((d : Thread nD τ).loc main_arg3) : Vec F S128 .f32) shapeCasts_S128_S1x128 i := by
    show StableHlo.after _ _ _ = _
    simp only [hostOps0, List.flatten_cons, List.flatten_nil, List.append_nil]
    after_results
    rfl
  rw [e]
  refine (shapeCast_addUnit_apply ![128] _ _ y).trans ?_
  congr 1
  funext a
  apply Fin.ext
  match a with
  | ⟨0, _⟩ => exact h.symm

/-- Every point's block of the signs is the whole row. -/
theorem signs_block (d : Dev nD) (t : Fin cfg0.N) (y : S1x128.Idx) (z : S128.Idx) (h : (z 0).val = (y 1).val) :
    (iblk m d 0 t : Vec F S1x128 .f32) y = m ((d : Thread nD τ).loc main_arg3) z := by
  unfold iblk
  rw [View.read_apply]
  refine signs_row m d _ z (h.trans ?_)
  show (y 1).val = 0 * 128 + 1 * (y 1).val
  omega

/-- The column indices the kernel is given: the argument, with a leading axis of one. -/
theorem inds_row (d : Dev nD) (y : S1x128.Idx) (z : S128.Idx) (h : (z 0).val = (y 1).val) :
    (V m d main_v1 : Vec F S1x128 .i32) y = m ((d : Thread nD τ).loc main_arg2) z := by
  have e : V m d main_v1 = fun i => shapeCast S1x128 (m ((d : Thread nD τ).loc main_arg2) : Vec F S128 .i32) shapeCasts_S128_S1x128 i := by
    show StableHlo.after _ _ _ = _
    simp only [hostOps0, List.flatten_cons, List.flatten_nil, List.append_nil]
    after_results
    rfl
  rw [e]
  refine (shapeCast_addUnit_apply ![128] _ _ y).trans ?_
  congr 1
  funext a
  apply Fin.ext
  match a with
  | ⟨0, _⟩ => exact h.symm

/-- Every point's block of the column indices is the whole row. -/
theorem inds_block (d : Dev nD) (t : Fin cfg0.N) (y : S1x128.Idx) (z : S128.Idx) (h : (z 0).val = (y 1).val) :
    (iblk m d 1 t : Vec F S1x128 .i32) y = m ((d : Thread nD τ).loc main_arg2) z := by
  unfold iblk
  rw [View.read_apply]
  refine inds_row m d _ z (h.trans ?_)
  show (y 1).val = 0 * 128 + 1 * (y 1).val
  omega

/-- The row numbers the kernel is given: the argument, with a leading axis of one. -/
theorem rows_row (d : Dev nD) (y : S1x128.Idx) (z : S128.Idx) (h : (z 0).val = (y 1).val) :
    (V m d main_v2 : Vec F S1x128 .i32) y = m ((d : Thread nD τ).loc main_arg4) z := by
  have e : V m d main_v2 = fun i => shapeCast S1x128 (m ((d : Thread nD τ).loc main_arg4) : Vec F S128 .i32) shapeCasts_S128_S1x128 i := by
    show StableHlo.after _ _ _ = _
    simp only [hostOps0, List.flatten_cons, List.flatten_nil, List.append_nil]
    after_results
    rfl
  rw [e]
  refine (shapeCast_addUnit_apply ![128] _ _ y).trans ?_
  congr 1
  funext a
  apply Fin.ext
  match a with
  | ⟨0, _⟩ => exact h.symm

/-- Every point's block of the row numbers is the whole row. -/
theorem rows_block (d : Dev nD) (t : Fin cfg0.N) (y : S1x128.Idx) (z : S128.Idx) (h : (z 0).val = (y 1).val) :
    (iblk m d 2 t : Vec F S1x128 .i32) y = m ((d : Thread nD τ).loc main_arg4) z := by
  unfold iblk
  rw [View.read_apply]
  refine rows_row m d _ z (h.trans ?_)
  show (y 1).val = 0 * 128 + 1 * (y 1).val
  omega

/-- The point that writes row `r`. -/
theorem row_point (r : ℕ) (h : r < 16384) : r / 512 < cfg0.N := by
  rw [show cfg0.N = 32 from N_0]; omega

/-- The first result array ends as the argument `c`. -/
theorem final_c (d : Dev nD) : (dats m 0 d).arrAt 5 cfg0.N = m ((d : Thread nD τ).loc main_arg0) := by
  refine (dats m 0 d).arrAt_eq_of_cover 5 (m ((d : Thread nD τ).loc main_arg0)) (fun t _ => ?_) (fun i => ?_)
  · show (cfg0.win 5).cut (grid0.coords t) ((dats m 0 d).after 5 t) = _
    rw [after0_5, copied_c]
    funext y
    rw [View.read_apply]
    have hi := block_row t
    exact c_block m d t y _
      (by show win0_5.index t 0 * 512 + 1 * (y 0).val = _; rw [hi.2.2.2.2.1]; omega)
      (by show win0_5.index t 1 * 2048 + 1 * (y 1).val = _; rw [hi.2.2.2.2.2.1]; omega)
  · have r0 : (i 0 : Nat) < 16384 := (i 0).isLt
    have r1 : (i 1 : Nat) < 2048 := (i 1).isLt
    refine ⟨⟨(i 0).val / 512, row_point _ r0⟩, flush0_5 _, ?_⟩
    generalize ht : (⟨(i 0).val / 512, row_point _ r0⟩ : Fin cfg0.N) = t
    have hv : t.val = (i 0).val / 512 := by rw [← ht]
    show i ∈ ((View.whole main_v3_0).slice (win0_5.rect t)).set
    rw [View.set_slice_whole, Rect.mem_set_unit]
    have hi := block_row t
    intro a
    match a with
    | ⟨0, _⟩ => show win0_5.index t 0 * 512 ≤ (i 0 : Nat) ∧ (i 0 : Nat) < win0_5.index t 0 * 512 + 512
                rw [hi.2.2.2.2.1]; omega
    | ⟨1, _⟩ => show win0_5.index t 1 * 2048 ≤ (i 1 : Nat) ∧ (i 1 : Nat) < win0_5.index t 1 * 2048 + 2048
                rw [hi.2.2.2.2.2.1]; omega

/-- The second result array ends as the argument `s`. -/
theorem final_s (d : Dev nD) : (dats m 0 d).arrAt 6 cfg0.N = m ((d : Thread nD τ).loc main_arg1) := by
  refine (dats m 0 d).arrAt_eq_of_cover 6 (m ((d : Thread nD τ).loc main_arg1)) (fun t _ => ?_) (fun i => ?_)
  · show (cfg0.win 6).cut (grid0.coords t) ((dats m 0 d).after 6 t) = _
    rw [after0_6, copied_s]
    funext y
    rw [View.read_apply]
    have hi := block_row t
    exact s_block m d t y _
      (by show win0_6.index t 0 * 512 + 1 * (y 0).val = _; rw [hi.2.2.2.2.2.2.1]; omega)
      (by show win0_6.index t 1 * 2048 + 1 * (y 1).val = _; rw [hi.2.2.2.2.2.2.2]; omega)
  · have r0 : (i 0 : Nat) < 16384 := (i 0).isLt
    have r1 : (i 1 : Nat) < 2048 := (i 1).isLt
    refine ⟨⟨(i 0).val / 512, row_point _ r0⟩, flush0_6 _, ?_⟩
    generalize ht : (⟨(i 0).val / 512, row_point _ r0⟩ : Fin cfg0.N) = t
    have hv : t.val = (i 0).val / 512 := by rw [← ht]
    show i ∈ ((View.whole main_v3_1).slice (win0_6.rect t)).set
    rw [View.set_slice_whole, Rect.mem_set_unit]
    have hi := block_row t
    intro a
    match a with
    | ⟨0, _⟩ => show win0_6.index t 0 * 512 ≤ (i 0 : Nat) ∧ (i 0 : Nat) < win0_6.index t 0 * 512 + 512
                rw [hi.2.2.2.2.2.2.1]; omega
    | ⟨1, _⟩ => show win0_6.index t 1 * 2048 ≤ (i 1 : Nat) ∧ (i 1 : Nat) < win0_6.index t 1 * 2048 + 2048
                rw [hi.2.2.2.2.2.2.2]; omega

/-- The grid's last point. -/
theorem point_last : 31 < cfg0.N := by rw [show cfg0.N = 32 from N_0]; decide

/-- The scalar the kernel returns. -/
def kernelScalar (d : Dev nD) : F .f32 := k0_pay4 (running m d 31 point_last)

/-- The third result array, one word, ends as the scaled running word. -/
theorem final_word (d : Dev nD) : (dats m 0 d).arrAt 7 cfg0.N = fun _ => kernelScalar m d := by
  refine (dats m 0 d).arrAt_eq_of_cover 7 (fun _ => kernelScalar m d) (fun t hf => ?_) (fun i => ?_)
  · have h31 := (flush0_7 t).mp hf
    have hN : cfg0.N = 32 := N_0
    have hv : t.val = 31 := by have := t.isLt; omega
    obtain rfl : t = ⟨31, point_last⟩ := Fin.ext hv
    show (cfg0.win 7).cut (grid0.coords _) ((dats m 0 d).after 7 _) = _
    rw [after0_7, scalar_block m d _ h31]
    rfl
  · refine ⟨⟨31, point_last⟩, (flush0_7 _).mpr rfl, ?_⟩
    have q := ((cfg0.win 7).blk ⟨31, point_last⟩).view.emb_mem_set only
    rwa [show ((cfg0.win 7).blk ⟨31, point_last⟩).view.emb only = i from one_index _ _] at q

/-- The whole run: the two copies, the scalar, the arguments unchanged. -/
theorem run : θ_run defs (onTc (τ := τ) (main (F := F))) ⟨m, fun _ => 0, ρ⟩ fun r => ∀ d : Dev nD,
      r.2.mem ((d.tc : Thread nD τ).loc main_v3_0) = m ((d.tc : Thread nD τ).loc main_arg0)
      ∧ r.2.mem ((d.tc : Thread nD τ).loc main_v3_1) = m ((d.tc : Thread nD τ).loc main_arg1)
      ∧ r.2.mem ((d.tc : Thread nD τ).loc main_v4) = (fun _ => kernelScalar m d) := by
  refine (θ_run defs _ _).mono (fun r h d => ⟨((h d).1 5).trans (final_c m d), ((h d).1 6).trans (final_s m d), ?_⟩) (run_main m ρ)
  refine ((h d).2 main_v4 (Pipeline.mem_restRefs_of main_v4 (by decide) (by decide))).trans ?_
  unfold Pipeline.afterTail₀
  simp only [hostOps1, List.flatten_cons, List.flatten_nil, List.append_nil, StableHlo.after_cons, StableHlo.after_nil]
  rw [StableHlo.reshape_result']
  have hw := Pipeline.withArrays_arr spec0 winFacts0.arr_inj d (V0 m d) (fun w => (dats m 0 d).arrAt w cfg0.N) 7
  funext i
  exact (congrFun hw _).trans (congrFun (final_word m d) _)

end Cert.KernelIdeal.Arctan

end
-- ==== Proof.Block.lean ====
/-
  What one block computes at the idealized arithmetic: the two tables are tables of zeros and ones, and a point adds
  to the running word the sum of the absolute values of its block of `(512, 32)` sums.
-/
module

public import proofs.«01_k».proof.Proof.Final
public import Idealize.ShloMosaic.Lib.ValueIdx
public import Idealize.ShloMosaic.Lib.ValueIdxCoords
public import Idealize.ShloMosaic.Lib.MatmulPlain

@[expose] public section

noncomputable section

namespace Cert.KernelIdeal.Arctan

open Cert.KernelIdeal Cert.KernelIdeal.Gen Idealize.ShloMosaic Idealize.ShloMosaic.TcCoe Idealize.ShloMosaic.ValueIdx

/-- One comparison as a float: one where the words agree, zero elsewhere. -/
theorem agree_value (x y : BitVec 32) :
    (FloatOps.sitofp .f32 ((IntOp.cmpi .eq x y).setWidth 32) : Ideal .f32) = if x = y then (1 : EReal) else 0 := by
  by_cases h : x = y
  · subst h
    rw [if_pos rfl, show IntOp.cmpi .eq x x = 1#1 by simp [IntOp.cmpi]]
    show (((((1#1 : BitVec 1).setWidth 32).toInt : ℝ)) : EReal) = 1
    rw [show ((1#1 : BitVec 1).setWidth 32).toInt = 1 by decide]
    simp
  · rw [if_neg h, show IntOp.cmpi .eq x y = 0#1 by
      show BitVec.ofBool (x == y) = 0#1
      rw [beq_eq_false_iff_ne.mpr h]; rfl]
    show (((((0#1 : BitVec 1).setWidth 32).toInt : ℝ)) : EReal) = 0
    rw [show ((0#1 : BitVec 1).setWidth 32).toInt = 0 by decide]
    simp

/-- The gather table: entry `(j, k)` is one where the index word `k` is `j`. -/
theorem gather_entry (ind : Vec Ideal S1x128 .i32) (j : Fin 2048) (k : Fin 128) :
    (k0_pay1 ind : FVec Ideal S2048x128 .f32) (ix2 j k)
      = if BitVec.ofNat 32 j.val = ind (ix2 0 k) then (1 : EReal) else 0 := by
  unfold k0_pay1
  simp only [shapeCast_self]
  rw [sitofp_apply, extui_apply]
  show FloatOps.sitofp .f32 ((IntOp.cmpi .eq (iota .tc S2048x128 32 [0] iota_S2048x128_d0_w32 (ix2 j k)) (broadcastTo S2048x128 ind broadcasts_S1x128_S2048x128 (ix2 j k))).setWidth 32) = _
  rw [iota_single_apply, broadcastTo_apply ind _ (ix2 j k) (ix2 0 k) (fun a => match a with | ⟨0, _⟩ => rfl | ⟨1, _⟩ => rfl), agree_value]

/-- The segment table: entry `(j, k)` is one where the row word `k` is `j`. -/
theorem cycle_entry (row : Vec Ideal S1x128 .i32) (j : Fin 32) (k : Fin 128) :
    (k0_pay2 row : FVec Ideal S32x128 .f32) (ix2 j k)
      = if BitVec.ofNat 32 j.val = row (ix2 0 k) then (1 : EReal) else 0 := by
  unfold k0_pay2
  simp only [shapeCast_self]
  rw [sitofp_apply, extui_apply]
  show FloatOps.sitofp .f32 ((IntOp.cmpi .eq (iota .tc S32x128 32 [0] iota_S32x128_d0_w32 (ix2 j k)) (broadcastTo S32x128 row broadcasts_S1x128_S32x128 (ix2 j k))).setWidth 32) = _
  rw [iota_single_apply, broadcastTo_apply row _ (ix2 j k) (ix2 0 k) (fun a => match a with | ⟨0, _⟩ => rfl | ⟨1, _⟩ => rfl), agree_value]

/-- One entry of the product that gathers a block's columns. -/
def gatherSum (x : FVec Ideal S512x2048 .f32) (g : FVec Ideal S2048x128 .f32) (r : Fin 512) (k : Fin 128) : EReal :=
  ∑ i : Fin 2048, x (ix2 r i) * g (ix2 i k)

/-- The array of angles of one block: the arctangent of the gathered, signed `s` over the gathered `c`. -/
def blockAngle (cb sb : FVec Ideal S512x2048 .f32) (g : FVec Ideal S2048x128 .f32) (sgn : FVec Ideal S1x128 .f32)
    (r : Fin 512) (k : Fin 128) : EReal :=
  Ideal.atan2 (gatherSum sb g r k * sgn (ix2 0 k)) (gatherSum cb g r k)

/-- One entry of the block's `(512, 32)` array of sums, from the two blocks, the tables and the row of signs. -/
def blockSum (cb sb : FVec Ideal S512x2048 .f32) (g : FVec Ideal S2048x128 .f32) (sgn : FVec Ideal S1x128 .f32)
    (p : FVec Ideal S32x128 .f32) (r : Fin 512) (j : Fin 32) : EReal :=
  ∑ k : Fin 128, blockAngle cb sb g sgn r k * p (ix2 j k)

/-- The zero word is the number zero. -/
theorem zero_word : (FloatOps.ofBits .f32 0x00000000#32 : Ideal .f32) = (0 : EReal) := Ideal.ofBits_zero_f32

/-- The gathering product read at an entry. -/
theorem gathered (x : FVec Ideal S512x2048 .f32) (g : FVec Ideal S2048x128 .f32) (r : Fin 512) (k : Fin 128) :
    (matmul dot_S512x2048_S2048x128_S512x128_1_0_0_1_n_n none x g (constant S512x128 .f32 0x00000000#32) : FVec Ideal S512x128 .f32) (ix2 r k)
      = gatherSum x g r k := by
  refine (Ideal.matmul_plain_apply (M := 512) (K := 2048) (N := 128) none x g _ r k).trans ?_
  show (FloatOps.ofBits .f32 0x00000000#32 : Ideal .f32) + (_ : EReal) = _
  rw [zero_word, zero_add, gatherSum]

/-- The summing product read at an entry. -/
theorem summed (x : FVec Ideal S512x128 .f32) (p : FVec Ideal S32x128 .f32) (r : Fin 512) (j : Fin 32) :
    (matmul dot_S512x128_S32x128_S512x32_1_1_0_0_n_n none x p (constant S512x32 .f32 0x00000000#32) : FVec Ideal S512x32 .f32) (ix2 r j)
      = ∑ k : Fin 128, (x (ix2 r k) * p (ix2 j k) : EReal) := by
  refine (Ideal.matmul_transposedRhs_apply (M := 512) (K := 128) (N := 32) none x p _ r j).trans ?_
  show (FloatOps.ofBits .f32 0x00000000#32 : Ideal .f32) + (_ : EReal) = _
  rw [zero_word, zero_add]

/-- Summing a `(512, 32)` array, seen with a leading axis of one, over its two axes is the double sum. -/
theorem whole_sum (x : FVec Ideal S512x32 .f32) (y : S1.Idx) :
    (multiReduction .add [1, 2] S1 (shapeCast S1x512x32 x shapeCasts_S512x32_S1x512x32) 0x00000000#32 reduces_S1x512x32_S1 (.inl rfl) rfl : FVec Ideal S1 .f32) y
      = ∑ r : Fin 512, ∑ j : Fin 32, (x (ix2 r j) : EReal) := by
  show Ideal.reduceAdd reduces_S1x512x32_S1 (shapeCast S1x512x32 x shapeCasts_S512x32_S1x512x32) y = _
  unfold Ideal.reduceAdd
  rw [Finset.filter_true_of_mem (fun i _ => (eq_ix1_u0 _).trans (eq_ix1_u0 y).symm)]
  unfold shapeCast
  exact (Equiv.sum_comp (Shape.reshapeEquiv shapeCasts_S512x32_S1x512x32) (fun i => (x i : EReal))).trans (sum_idx2 (n0 := 512) (n1 := 32) (fun i => (x i : EReal)))

/-- The block's angles, read off the operations that make them. -/
theorem angle_entry (cb sb : FVec Ideal S512x2048 .f32) (g : FVec Ideal S2048x128 .f32) (sgn : FVec Ideal S1x128 .f32)
    (r : Fin 512) (k : Fin 128) :
    (atan2 (mulf (matmul dot_S512x2048_S2048x128_S512x128_1_0_0_1_n_n none sb g (constant S512x128 .f32 0x00000000#32)) (broadcastTo S512x128 sgn broadcasts_S1x128_S512x128))
      (matmul dot_S512x2048_S2048x128_S512x128_1_0_0_1_n_n none cb g (constant S512x128 .f32 0x00000000#32)) : FVec Ideal S512x128 .f32) (ix2 r k)
      = blockAngle cb sb g sgn r k := by
  have e := gathered sb g r k
  have e' := gathered cb g r k
  have b := broadcastTo_apply sgn broadcasts_S1x128_S512x128 (ix2 r k) (ix2 0 k) (fun a => match a with | ⟨0, _⟩ => rfl | ⟨1, _⟩ => rfl)
  unfold blockAngle
  rw [← e, ← e', ← b]
  rfl

/-- What a point adds to the running word: the block's absolute sums, added up. -/
theorem added (cb sb : FVec Ideal S512x2048 .f32) (g : FVec Ideal S2048x128 .f32) (sgn : FVec Ideal S1x128 .f32)
    (p : FVec Ideal S32x128 .f32) (acc : Ideal .f32) :
    (k0_pay3 (F := Ideal) cb sb g sgn p acc : Ideal .f32)
      = acc + ∑ r : Fin 512, ∑ j : Fin 32, max (blockSum cb sb g sgn p r j) (-blockSum cb sb g sgn p r j) := by
  unfold k0_pay3
  simp only [shapeCast_self]
  rw [Ideal.scalar_addf_def]
  refine congrArg (acc + ·) ((whole_sum _ _).trans ?_)
  refine Finset.sum_congr rfl fun r _ => Finset.sum_congr rfl fun j _ => ?_
  have e := (summed (atan2 (mulf (matmul dot_S512x2048_S2048x128_S512x128_1_0_0_1_n_n none sb g (constant S512x128 .f32 0x00000000#32)) (broadcastTo S512x128 sgn broadcasts_S1x128_S512x128))
      (matmul dot_S512x2048_S2048x128_S512x128_1_0_0_1_n_n none cb g (constant S512x128 .f32 0x00000000#32))) p r j).trans
    (Finset.sum_congr rfl fun k _ => congrArg (fun z : EReal => z * (p (ix2 j k) : EReal)) (angle_entry cb sb g sgn r k))
  exact congrArg (fun z : EReal => max z (-z)) e

end Cert.KernelIdeal.Arctan

end
-- ==== Proof.Spec.lean ====
/-
  The mathematics both programs compute, written once: signed angles of selected columns, added up per cycle, and the
  mean of the absolute values.
-/
module

public import Idealize.ShloMosaic.Lib.ValueIdx

@[expose] public section

noncomputable section

namespace Cert.Arctan

open Idealize.ShloMosaic Idealize.ShloMosaic.ValueIdx

/-- The column the `k`-th index word selects. -/
def column (inds : IVec ⟨1, ![128]⟩ 32) (k : Fin 128) : Fin 2048 := ⟨(inds (ix1 k)).toNat % 2048, Nat.mod_lt _ (by decide)⟩

/-- The angle of row `r` at the `k`-th selected column: the arctangent of the signed `s` over the `c` there. -/
def angle (c s : FVec Ideal ⟨2, ![16384, 2048]⟩ .f32) (inds : IVec ⟨1, ![128]⟩ 32) (sg : FVec Ideal ⟨1, ![128]⟩ .f32)
    (r : Fin 16384) (k : Fin 128) : EReal :=
  Ideal.atan2 (s (ix2 r (column inds k)) * sg (ix1 k)) (c (ix2 r (column inds k)))

/-- The sum of row `r`'s angles over cycle `j`: those whose row word is `j`. -/
def cycleSum (c s : FVec Ideal ⟨2, ![16384, 2048]⟩ .f32) (inds : IVec ⟨1, ![128]⟩ 32) (sg : FVec Ideal ⟨1, ![128]⟩ .f32)
    (rows : IVec ⟨1, ![128]⟩ 32) (r : Fin 16384) (j : Fin 32) : EReal :=
  ∑ k : Fin 128, if BitVec.ofNat 32 j.val = rows (ix1 k) then angle c s inds sg r k else 0

/-- The absolute cycle sums, added up over rows and cycles. -/
def absTotal (c s : FVec Ideal ⟨2, ![16384, 2048]⟩ .f32) (inds : IVec ⟨1, ![128]⟩ 32) (sg : FVec Ideal ⟨1, ![128]⟩ .f32)
    (rows : IVec ⟨1, ![128]⟩ 32) : EReal :=
  ∑ r : Fin 16384, ∑ j : Fin 32, max (cycleSum c s inds sg rows r j) (-cycleSum c s inds sg rows r j)

/-- The word `0x36000000` is two to the minus nineteen. -/
theorem scale_word : Ideal.ofBits .f32 0x36000000#32 = ((1 / 524288 : ℝ) : EReal) := by
  simp [Ideal.ofBits, Ideal.ieee, -EReal.coe_mul]
  norm_num

/-- The word `0x49000000` is two to the nineteen. -/
theorem count_word : Ideal.ofBits .f32 0x49000000#32 = ((524288 : ℝ) : EReal) := by
  simp [Ideal.ofBits, Ideal.ieee, -EReal.coe_mul]
  norm_num

/-- Dividing by the number of entries is scaling by its reciprocal, at the infinities too. -/
theorem mean_scale (x : EReal) :
    Ideal.div x (Ideal.ofBits .f32 0x49000000#32) = x * Ideal.ofBits .f32 0x36000000#32 := by
  rw [scale_word, count_word]
  exact Ideal.div_coe (by norm_num) x

/-- Summing over the rows is summing over the blocks of 512 rows, then over the rows of each. -/
theorem sum_rows (f : Fin 16384 → EReal) :
    ∑ r : Fin 16384, f r = ∑ t : Fin 32, ∑ r : Fin 512, f ⟨512 * t.val + r.val, by have := t.isLt; have := r.isLt; omega⟩ := by
  rw [← Fintype.sum_prod_type']
  refine (Equiv.sum_comp (finProdFinEquiv (m := 32) (n := 512)) f).symm.trans (Finset.sum_congr rfl fun p _ => ?_)
  congr 1
  apply Fin.ext
  show p.2.val + 512 * p.1.val = 512 * p.1.val + p.2.val
  omega

/-- A sum against a row of zeros with a single one picks that entry out, whatever the other entries are. -/
theorem pick (x : Fin 2048 → EReal) (w : BitVec 32) (h : w.toNat < 2048) :
    (∑ i : Fin 2048, x i * (if BitVec.ofNat 32 i.val = w then (1 : EReal) else 0)) = x ⟨w.toNat % 2048, Nat.mod_lt _ (by decide)⟩ := by
  rw [Finset.sum_eq_single (⟨w.toNat % 2048, Nat.mod_lt _ (by decide)⟩ : Fin 2048)]
  · rw [if_pos, mul_one]
    show BitVec.ofNat 32 (w.toNat % 2048) = w
    rw [Nat.mod_eq_of_lt h, BitVec.ofNat_toNat, BitVec.setWidth_eq]
  · intro i _ hi
    rw [if_neg, mul_zero]
    intro e
    apply hi
    apply Fin.ext
    show i.val = w.toNat % 2048
    have := i.isLt
    rw [← e, BitVec.toNat_ofNat]
    omega
  · exact fun hn => absurd (Finset.mem_univ _) hn

end Cert.Arctan

end
-- ==== Proof.Total.lean ====
/-
  The kernel's running word after each point, and the scalar it returns: the sum of the absolute cycle sums of the
  rows seen so far, scaled at the end.
-/
module

public import proofs.«01_k».proof.Proof.Block
public import proofs.«01_k».proof.Proof.Spec

@[expose] public section

noncomputable section

namespace Cert.KernelIdeal.Arctan

open Cert.KernelIdeal Cert.KernelIdeal.Gen Idealize.ShloMosaic Idealize.ShloMosaic.TcCoe Idealize.ShloMosaic.ValueIdx
open Cert.Arctan

variable (m : (ℓ : Loc nD τ sig) → Buf (Elt Ideal) ℓ)

/-- The argument `c`. -/
abbrev argC (d : Dev nD) : FVec Ideal S16384x2048 .f32 := m ((d : Thread nD τ).loc main_arg0)
/-- The argument `s`. -/
abbrev argS (d : Dev nD) : FVec Ideal S16384x2048 .f32 := m ((d : Thread nD τ).loc main_arg1)
/-- The index words. -/
abbrev argInds (d : Dev nD) : IVec S128 32 := m ((d : Thread nD τ).loc main_arg2)
/-- The signs. -/
abbrev argSigns (d : Dev nD) : FVec Ideal S128 .f32 := m ((d : Thread nD τ).loc main_arg3)
/-- The row words. -/
abbrev argRows (d : Dev nD) : IVec S128 32 := m ((d : Thread nD τ).loc main_arg4)

/-- Every index word names a column. -/
abbrev InRange (d : Dev nD) : Prop := ∀ k : Fin 128, (argInds m d (ix1 k)).toNat < 2048

/-- Row `r` of the block at point `t`, as a row of the whole array. -/
def wholeRow (t : ℕ) (ht : t < 32) (r : Fin 512) : Fin 16384 := ⟨512 * t + r.val, by have := r.isLt; omega⟩

/-- A point of the grid is below thirty-two. -/
theorem point_lt (t : Fin cfg0.N) : t.val < 32 := by have := t.isLt; have h : cfg0.N = 32 := N_0; omega

/-- Gathering a block of `c` by the table picks the selected column. -/
theorem picked_c (d : Dev nD) (hr : InRange m d) (t : Fin cfg0.N) (r : Fin 512) (k : Fin 128) :
    gatherSum (iblk m d 3 t) (gatherTable m d) r k
      = argC m d (ix2 (wholeRow t.val (point_lt t) r) (column (argInds m d) k)) := by
  unfold gatherSum
  refine (Finset.sum_congr rfl fun i _ => ?_).trans (pick (fun i => argC m d (ix2 (wholeRow t.val (point_lt t) r) i)) _ (hr k))
  rw [c_block m d t (ix2 r i) (ix2 (wholeRow t.val (point_lt t) r) i) rfl rfl]
  refine congrArg (fun z : EReal => argC m d (ix2 (wholeRow t.val (point_lt t) r) i) * z) ?_
  refine (gather_entry _ i k).trans ?_
  rw [inds_block m d _ (ix2 0 k) (ix1 k) rfl]

/-- Gathering a block of `s` by the table picks the selected column. -/
theorem picked_s (d : Dev nD) (hr : InRange m d) (t : Fin cfg0.N) (r : Fin 512) (k : Fin 128) :
    gatherSum (iblk m d 4 t) (gatherTable m d) r k
      = argS m d (ix2 (wholeRow t.val (point_lt t) r) (column (argInds m d) k)) := by
  unfold gatherSum
  refine (Finset.sum_congr rfl fun i _ => ?_).trans (pick (fun i => argS m d (ix2 (wholeRow t.val (point_lt t) r) i)) _ (hr k))
  rw [s_block m d t (ix2 r i) (ix2 (wholeRow t.val (point_lt t) r) i) rfl rfl]
  refine congrArg (fun z : EReal => argS m d (ix2 (wholeRow t.val (point_lt t) r) i) * z) ?_
  refine (gather_entry _ i k).trans ?_
  rw [inds_block m d _ (ix2 0 k) (ix1 k) rfl]

/-- The cycle sums of the arguments. -/
abbrev sums (d : Dev nD) (r : Fin 16384) (j : Fin 32) : EReal :=
  cycleSum (argC m d) (argS m d) (argInds m d) (argSigns m d) (argRows m d) r j

/-- A block's entry of sums is the whole array's cycle sum at the same row. -/
theorem block_sums (d : Dev nD) (hr : InRange m d) (t : Fin cfg0.N) (r : Fin 512) (j : Fin 32) :
    blockSum (iblk m d 3 t) (iblk m d 4 t) (gatherTable m d) (iblk m d 0 t) (cycleTable m d) r j
      = sums m d (wholeRow t.val (point_lt t) r) j := by
  unfold blockSum sums cycleSum
  refine Finset.sum_congr rfl fun k _ => ?_
  have e := (cycle_entry (iblk m d 2 ⟨0, point_zero⟩) j k)
  rw [rows_block m d _ (ix2 0 k) (ix1 k) rfl] at e
  have a : blockAngle (iblk m d 3 t) (iblk m d 4 t) (gatherTable m d) (iblk m d 0 t) r k
      = angle (argC m d) (argS m d) (argInds m d) (argSigns m d) (wholeRow t.val (point_lt t) r) k := by
    unfold blockAngle angle
    rw [picked_c m d hr, picked_s m d hr, signs_block m d t (ix2 0 k) (ix1 k) rfl]
  rw [a]
  refine (congrArg (fun z : EReal => angle (argC m d) (argS m d) (argInds m d) (argSigns m d) (wholeRow t.val (point_lt t) r) k * z) e).trans ?_
  rw [mul_ite, mul_one, mul_zero]

/-- The part of the total that the rows of block `t` make. -/
def part (d : Dev nD) (t : ℕ) (ht : t < 32) : EReal :=
  ∑ r : Fin 512, ∑ j : Fin 32, max (sums m d (wholeRow t ht r) j) (-sums m d (wholeRow t ht r) j)

/-- Each point adds its rows' part. -/
theorem add_part (d : Dev nD) (hr : InRange m d) (t : Fin cfg0.N) (x : Ideal .f32) :
    addBlock m d t x = x + part m d t.val (point_lt t) := by
  refine (added _ _ _ _ _ _).trans ?_
  refine congrArg (x + ·) (Finset.sum_congr rfl fun r _ => Finset.sum_congr rfl fun j _ => ?_)
  rw [block_sums m d hr t r j]

/-- After point `n` the running word is the sum of the first `n + 1` parts. -/
theorem running_eq (d : Dev nD) (hr : InRange m d) : ∀ (n : ℕ) (h : n < cfg0.N),
    running m d n h = ∑ t : Fin (n + 1), part m d t.val (by have := t.isLt; have h' : cfg0.N = 32 := N_0; omega)
  | 0, h => by
    unfold running
    rw [add_part m d hr]
    refine (congrArg (fun z : EReal => z + _) zero_word).trans ?_
    rw [zero_add]
    simp
  | n + 1, h => by
    unfold running
    rw [add_part m d hr, running_eq d hr n (Nat.lt_of_succ_lt h)]
    exact (Fin.sum_univ_castSucc (fun t : Fin (n + 1 + 1) => part m d t.val (by have := t.isLt; have h' : cfg0.N = 32 := N_0; omega))).symm

/-- The scalar the kernel returns: the whole total, scaled. -/
theorem kernelScalar_eq (d : Dev nD) (hr : InRange m d) :
    kernelScalar m d = absTotal (argC m d) (argS m d) (argInds m d) (argSigns m d) (argRows m d) * Ideal.ofBits .f32 0x36000000#32 := by
  unfold kernelScalar k0_pay4
  dsimp only
  rw [Ideal.scalar_mulf_def, running_eq m d hr]
  refine congrArg (fun z : EReal => z * Ideal.ofBits .f32 0x36000000#32) ?_
  unfold absTotal
  rw [sum_rows]
  rfl

end Cert.KernelIdeal.Arctan

end
-- ==== Proof.Taken.lean ====
/-
  The reference's column selection: with every index word naming a column, `jnp.take` reads that column and fills
  nothing in.
-/
module

public import proofs.«01_k».proof.Proof.Gen.ReferenceIdeal.Run
public import proofs.«01_k».proof.Proof.Spec
public import Idealize.ShloMosaic.Lib.IdealHost
public import Idealize.ShloMosaic.Lib.Pipeline.Value
public import Idealize.ShloMosaic.Lib.ReduceAll

@[expose] public section

noncomputable section

namespace Cert.ReferenceIdeal.Arctan

open Cert.ReferenceIdeal Cert.ReferenceIdeal.Gen Idealize.ShloMosaic Idealize.ShloMosaic.TcCoe Idealize.ShloMosaic.ValueIdx
open Cert.Arctan

/-- Where each gather starts: the index word, a negative one counted from the end. -/
def starts (inds : IVec S128 32) : IVec S128x1 32 :=
  broadcastInDim S128x1 ![0] bcast_S128_S128x1_0 (select (cmpi .slt inds (broadcastInDim S128 ![] bcast_S_S128 (constantI S_ 32 0#32)))
    (addi inds (broadcastInDim S128 ![] bcast_S_S128 (constantI S_ 32 2048#32))) inds)

/-- Whether each start lies inside the array. -/
def inside (inds : IVec S128 32) : IVec S128 1 :=
  Host.reduce IntOp.andi (andi (cmpi .sge (starts inds) (broadcastInDim S128x1 ![] bcast_S_S128x1 (constantI S_ 32 0#32)))
    (cmpi .sle (starts inds) (broadcastInDim S128x1 ![0, 1] bcast_S1x1_S128x1_0_1 (broadcastInDim S1x1 ![1] bcast_S1_S1x1_1 (constantI S1 32 2047#32)))))
    (constantI S_ 1 1#1) reducesTo_S128x1_S128_d1 h_S_

/-- The selected columns of an array, as the reference selects them. -/
def taken (x : FVec Ideal S16384x2048 .f32) (inds : IVec S128 32) : FVec Ideal S16384x128 .f32 :=
  select (broadcastInDim S16384x128 ![1] bcast_S128_S16384x128_1 (inside inds))
    (Host.gather gather_S16384x2048_S128x1_S16384x128_0_1_n_n_1_1_163841 x (starts inds))
    (broadcastInDim S16384x128 ![] bcast_S_S16384x128 (constant S_ .f32 0x7FC00000#32))

/-- A word below 2048 is not negative when read signed. -/
theorem signed_small (w : BitVec 32) (h : w.toNat < 2048) : w.toInt = (w.toNat : ℤ) := by
  rw [BitVec.toInt_eq_toNat_cond, if_pos (by omega)]

/-- An index word that names a column is its own start. -/
theorem starts_entry (inds : IVec S128 32) (hr : ∀ k : Fin 128, (inds (ix1 k)).toNat < 2048) (k : Fin 128) (z : Fin 1) :
    starts inds (ix2 k z) = inds (ix1 k) := by
  unfold starts
  rw [broadcastInDim_apply ![0] bcast_S128_S128x1_0 _ (ix2 k z) (ix1 k) (fun a => match a with | ⟨0, _⟩ => rfl), select_apply]
  have hz : cmpi .slt inds (broadcastInDim S128 ![] bcast_S_S128 (constantI S_ 32 0#32)) (ix1 k) = 0#1 := by
    show BitVec.ofBool (BitVec.slt (inds (ix1 k)) 0#32) = 0#1
    have h := hr k
    rw [BitVec.slt_eq_decide, signed_small _ h, decide_eq_false (by simp)]
    rfl
  rw [hz, select_zero]

/-- Every start lies inside. -/
theorem inside_entry (inds : IVec S128 32) (hr : ∀ k : Fin 128, (inds (ix1 k)).toNat < 2048) (y : S128.Idx) : inside inds y = 1#1 := by
  unfold inside
  refine Host.reduce_andi_one _ _ _ _ _ rfl fun i => ?_
  obtain ⟨k, z, rfl⟩ : ∃ k z, i = ix2 k z := ⟨_, _, eq_ix2 (n0 := 128) (n1 := 1) i⟩
  show IntOp.andi (BitVec.ofBool (BitVec.sle 0#32 (starts inds (ix2 k z)))) (BitVec.ofBool (BitVec.sle (starts inds (ix2 k z)) 2047#32)) = 1#1
  rw [starts_entry inds hr]
  have h := hr k
  rw [BitVec.sle_eq_decide, BitVec.sle_eq_decide, signed_small _ h, decide_eq_true (by simp),
    decide_eq_true (by rw [show (2047#32 : BitVec 32).toInt = 2047 by decide]; omega)]
  rfl

/-- The gather read at an entry: the row stays, the column is the start, kept inside the array. -/
theorem gather_read (x : FVec Ideal S16384x2048 .f32) (idx : IVec S128x1 32) (r : Fin 16384) (k : Fin 128) (w : Fin 2048)
    (hw : (idx (ix2 k 0)).toInt = (w.val : ℤ)) :
    Host.gather gather_S16384x2048_S128x1_S16384x128_0_1_n_n_1_1_163841 x idx (ix2 r k) = x (ix2 r w) := by
  unfold Host.gather
  congr 1
  funext a
  refine Fin.ext ?_
  show GatherDims.start _ (ix2 r k) idx a + GatherDims.batchCoord _ (ix2 r k) a + GatherDims.offCoord _ (ix2 r k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : GatherDims.siIdx gather_S16384x2048_S128x1_S16384x128_0_1_n_n_1_1_163841 (ix2 r k)
        ⟨List.idxOf (1 : Fin 2) gather_S16384x2048_S128x1_S16384x128_0_1_n_n_1_1_163841.startIndexMap, by decide⟩ = ix2 k 0 := by
      funext b; refine Fin.ext ?_
      match b with
      | ⟨0, _⟩ => rfl
      | ⟨1, _⟩ => rfl
    have hle : min (idx (ix2 k 0)).toInt.toNat (2048 - 1) = w.val := by
      have := w.isLt
      rw [hw]; omega
    rw [← hle, ← hsi]
    rfl

/-- With every index word naming a column, the selected column is that one. -/
theorem taken_entry (x : FVec Ideal S16384x2048 .f32) (inds : IVec S128 32) (hr : ∀ k : Fin 128, (inds (ix1 k)).toNat < 2048)
    (r : Fin 16384) (k : Fin 128) : taken x inds (ix2 r k) = x (ix2 r (column inds k)) := by
  unfold taken
  rw [select_apply, broadcastInDim_apply ![1] bcast_S128_S16384x128_1 _ (ix2 r k) (ix1 k) (fun a => match a with | ⟨0, _⟩ => rfl),
    inside_entry inds hr, select_one]
  refine gather_read x _ r k _ ?_
  rw [starts_entry inds hr, signed_small _ (hr _)]
  show ((inds (ix1 k)).toNat : ℤ) = (((inds (ix1 k)).toNat % 2048 : ℕ) : ℤ)
  rw [Nat.mod_eq_of_lt (hr k)]

end Cert.ReferenceIdeal.Arctan

end
-- ==== Proof.Reference.lean ====
/-
  What the reference computes: its scatter adds each edge's angles into the edge's cycle, and its mean is the total of
  the absolute cycle sums over the number of entries.
-/
module

public import proofs.«01_k».proof.Proof.Taken

@[expose] public section

noncomputable section

namespace Cert.ReferenceIdeal.Arctan

open Cert.ReferenceIdeal Cert.ReferenceIdeal.Gen Idealize.ShloMosaic Idealize.ShloMosaic.TcCoe Idealize.ShloMosaic.ValueIdx
open Cert.Arctan

/-- The row an update is bound for, read signed. -/
theorem scatter_start (idx : IVec S128x1 32) (k : Fin 128) (r : Fin 16384) :
    ScatterDims.start scatter_S32x16384_S128x1_S128x16384_1_0_0_1 (ix2 k r) idx 0 = (idx (ix2 k 0)).toInt
      ∧ ScatterDims.start scatter_S32x16384_S128x1_S128x16384_1_0_0_1 (ix2 k r) idx 1 = 0
      ∧ ScatterDims.window scatter_S32x16384_S128x1_S128x16384_1_0_0_1 (ix2 k r) 0 = 0
      ∧ ScatterDims.window scatter_S32x16384_S128x1_S128x16384_1_0_0_1 (ix2 k r) 1 = r.val := by
  refine ⟨?_, ?_, ?_, ?_⟩
  · unfold ScatterDims.start
    rw [dif_pos (by decide)]
    have hsi : ScatterDims.siIdx scatter_S32x16384_S128x1_S128x16384_1_0_0_1 (ix2 k r)
        ⟨List.idxOf (0 : Fin 2) scatter_S32x16384_S128x1_S128x16384_1_0_0_1.scatterDimsToOperandDims, by decide⟩ = ix2 k 0 := by
      funext b; refine Fin.ext ?_
      match b with
      | ⟨0, _⟩ => rfl
      | ⟨1, _⟩ => rfl
    rw [← hsi]
  · unfold ScatterDims.start
    rw [dif_neg (by decide)]
  · unfold ScatterDims.window
    rw [dif_neg (by decide)]
  · unfold ScatterDims.window
    rw [dif_pos (by decide)]
    rfl

/-- A row word reads signed as `j` exactly when it is the word `j`. -/
theorem signed_eq (w : BitVec 32) (j : Fin 32) : w.toInt = (j.val : ℤ) ↔ BitVec.ofNat 32 j.val = w := by
  have hj := j.isLt
  have hw := w.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega), if_pos (by omega)]

/-- Update `(k, r)` lands on `(j, r')` exactly when its row word is `j` and the columns agree. -/
theorem lands (idx : IVec S128x1 32) (k : Fin 128) (r : Fin 16384) (j : Fin 32) (r' : Fin 16384) :
    ScatterDims.resultIdx? scatter_S32x16384_S128x1_S128x16384_1_0_0_1 (ix2 k r) idx = some (ix2 j r')
      ↔ (r = r' ∧ BitVec.ofNat 32 j.val = idx (ix2 k 0)) := by
  obtain ⟨s0, s1, w0, w1⟩ := scatter_start idx k r
  rw [← signed_eq]
  have hj := j.isLt
  have hr := r.isLt
  constructor
  · intro h
    unfold ScatterDims.resultIdx? at h
    split at h
    · next hc =>
      have e := Option.some.inj h
      have e0 : (ScatterDims.start scatter_S32x16384_S128x1_S128x16384_1_0_0_1 (ix2 k r) idx 0 + ScatterDims.window scatter_S32x16384_S128x1_S128x16384_1_0_0_1 (ix2 k r) 0).toNat = j.val :=
        congrArg Fin.val (congrFun e 0)
      have e1 : (ScatterDims.start scatter_S32x16384_S128x1_S128x16384_1_0_0_1 (ix2 k r) idx 1 + ScatterDims.window scatter_S32x16384_S128x1_S128x16384_1_0_0_1 (ix2 k r) 1).toNat = r'.val :=
        congrArg Fin.val (congrFun e 1)
      have c0 := (hc 0).1
      rw [s0, w0] at e0 c0
      rw [s1, w1] at e1
      exact ⟨Fin.ext (by omega), by omega⟩
    · exact absurd h (by simp)
  · rintro ⟨rfl, h⟩
    unfold ScatterDims.resultIdx?
    have hc : ∀ a : Fin 2, 0 ≤ ScatterDims.start scatter_S32x16384_S128x1_S128x16384_1_0_0_1 (ix2 k r) idx a + ScatterDims.window scatter_S32x16384_S128x1_S128x16384_1_0_0_1 (ix2 k r) a
        ∧ ScatterDims.start scatter_S32x16384_S128x1_S128x16384_1_0_0_1 (ix2 k r) idx a + ScatterDims.window scatter_S32x16384_S128x1_S128x16384_1_0_0_1 (ix2 k r) a < S32x16384.size a := by
      intro a
      have h01 : a = 0 ∨ a = 1 := by
        match a with
        | ⟨0, _⟩ => exact Or.inl rfl
        | ⟨1, _⟩ => exact Or.inr rfl
      rcases h01 with rfl | rfl
      · rw [s0, w0, h]
        exact ⟨by omega, by show (j.val : ℤ) + ((0 : ℕ) : ℤ) < ((32 : ℕ) : ℤ); omega⟩
      · rw [s1, w1]
        exact ⟨by omega, by show (0 : ℤ) + (r.val : ℤ) < ((16384 : ℕ) : ℤ); omega⟩
    rw [dif_pos hc]
    congr 1
    funext a
    apply Fin.ext
    have h01 : a = 0 ∨ a = 1 := by
      match a with
      | ⟨0, _⟩ => exact Or.inl rfl
      | ⟨1, _⟩ => exact Or.inr rfl
    rcases h01 with rfl | rfl
    · show (ScatterDims.start scatter_S32x16384_S128x1_S128x16384_1_0_0_1 (ix2 k r) idx 0 + ((ScatterDims.window scatter_S32x16384_S128x1_S128x16384_1_0_0_1 (ix2 k r) 0 : ℕ) : ℤ)).toNat = j.val
      rw [s0, w0, h]; omega
    · show (ScatterDims.start scatter_S32x16384_S128x1_S128x16384_1_0_0_1 (ix2 k r) idx 1 + ((ScatterDims.window scatter_S32x16384_S128x1_S128x16384_1_0_0_1 (ix2 k r) 1 : ℕ) : ℤ)).toNat = r.val
      rw [s1, w1]; omega

/-- The scatter read at an entry: what was there, and each update of that column whose row word is the entry's row. -/
theorem scattered (x : FVec Ideal S32x16384 .f32) (idx : IVec S128x1 32) (u : FVec Ideal S128x16384 .f32) (j : Fin 32) (r : Fin 16384) :
    (Host.scatterAdd scatter_S32x16384_S128x1_S128x16384_1_0_0_1 x idx u : FVec Ideal S32x16384 .f32) (ix2 j r)
      = (x (ix2 j r) : EReal) + ∑ k : Fin 128, if BitVec.ofNat 32 j.val = idx (ix2 k 0) then (u (ix2 k r) : EReal) else 0 := by
  show Ideal.hostScatterAdd scatter_S32x16384_S128x1_S128x16384_1_0_0_1 x idx u (ix2 j r) = _
  unfold Ideal.hostScatterAdd
  refine congrArg (fun z : EReal => x (ix2 j r) + z) ?_
  rw [Finset.sum_filter]
  refine (sum_idx2 (n0 := 128) (n1 := 16384) _).trans (Finset.sum_congr rfl fun k _ => ?_)
  refine (Finset.sum_congr rfl fun r' _ => if_congr (lands idx k r' j r) rfl rfl).trans ?_
  rw [Finset.sum_eq_single r]
  · simp
  · intro r' _ hne
    rw [if_neg (fun h => hne h.1)]
  · exact fun hn => absurd (Finset.mem_univ _) hn

variable (c s : FVec Ideal S16384x2048 .f32) (inds : IVec S128 32) (sg : FVec Ideal S128 .f32) (rows : IVec S128 32)

/-- The reference's angles. -/
def angles : FVec Ideal S16384x128 .f32 :=
  Host.atan2 (mulf (broadcastInDim S16384x128 ![0, 1] bcast_S1x128_S16384x128_0_1 (broadcastInDim S1x128 ![1] bcast_S128_S1x128_1 sg)) (taken s inds)) (taken c inds)

/-- The reference's cycle sums, one row per original row. -/
def cycles : FVec Ideal S16384x32 .f32 :=
  transpose S16384x32 [1, 0] (Host.scatterAdd scatter_S32x16384_S128x1_S128x16384_1_0_0_1 (broadcastInDim S32x16384 ![] bcast_S_S32x16384 (constant S_ .f32 0x00000000#32))
    (broadcastInDim S128x1 ![0] bcast_S128_S128x1_0 rows) (transpose S128x16384 [1, 0] (angles c s inds sg) transposes_S16384x128_S128x16384_1_0)) transposes_S32x16384_S16384x32_1_0

/-- The reference's mean. -/
def mean : FVec Ideal S_ .f32 :=
  Host.divf (Host.reduceAdd (Host.absf (cycles c s inds sg rows)) (constant S_ .f32 0x00000000#32) reducesTo_S16384x32_S_d0_1 h_S_) (constant S_ .f32 0x49000000#32)

/-- The reference's angle at an entry. -/
theorem angles_entry (hr : ∀ k : Fin 128, (inds (ix1 k)).toNat < 2048) (r : Fin 16384) (k : Fin 128) :
    angles c s inds sg (ix2 r k) = angle c s inds sg r k := by
  unfold angles angle
  have e := broadcastInDim_apply ![0, 1] bcast_S1x128_S16384x128_0_1 (broadcastInDim S1x128 ![1] bcast_S128_S1x128_1 sg) (ix2 r k) (ix2 0 k)
    (fun a => match a with | ⟨0, _⟩ => rfl | ⟨1, _⟩ => rfl)
  have e' := broadcastInDim_apply ![1] bcast_S128_S1x128_1 sg (ix2 0 k) (ix1 k) (fun a => match a with | ⟨0, _⟩ => rfl)
  show Ideal.atan2 ((broadcastInDim S16384x128 ![0, 1] bcast_S1x128_S16384x128_0_1 (broadcastInDim S1x128 ![1] bcast_S128_S1x128_1 sg) (ix2 r k) : EReal) * taken s inds (ix2 r k)) (taken c inds (ix2 r k)) = _
  rw [e, e', taken_entry s inds hr, taken_entry c inds hr]
  exact congrArg (fun z : EReal => Ideal.atan2 z (c (ix2 r (column inds k)))) (mul_comm (sg (ix1 k) : EReal) (s (ix2 r (column inds k))))

/-- The zero word is the number zero. -/
theorem zero_word : (FloatOps.ofBits .f32 0x00000000#32 : Ideal .f32) = (0 : EReal) := Ideal.ofBits_zero_f32

/-- The reference's cycle sum at an entry. -/
theorem cycles_entry (hr : ∀ k : Fin 128, (inds (ix1 k)).toNat < 2048) (r : Fin 16384) (j : Fin 32) :
    cycles c s inds sg rows (ix2 r j) = cycleSum c s inds sg rows r j := by
  unfold cycles cycleSum
  rw [transpose_apply [1, 0] _ transposes_S32x16384_S16384x32_1_0 (ix2 r j) (ix2 j r) (fun b => match b with | ⟨0, _⟩ => rfl | ⟨1, _⟩ => rfl), scattered]
  refine (congrArg (fun z : EReal => z + _) ((broadcastInDim_scalar_apply _ _ _).trans zero_word)).trans ?_
  rw [zero_add]
  refine Finset.sum_congr rfl fun k _ => ?_
  rw [broadcastInDim_apply ![0] bcast_S128_S128x1_0 rows (ix2 k 0) (ix1 k) (fun a => match a with | ⟨0, _⟩ => rfl),
    transpose_apply [1, 0] _ transposes_S16384x128_S128x16384_1_0 (ix2 k r) (ix2 r k) (fun b => match b with | ⟨0, _⟩ => rfl | ⟨1, _⟩ => rfl),
    angles_entry c s inds sg hr]

/-- The reference's mean is the total of the absolute cycle sums, scaled by one over the number of entries. -/
theorem mean_eq (hr : ∀ k : Fin 128, (inds (ix1 k)).toNat < 2048) :
    mean c s inds sg rows = fun _ => absTotal c s inds sg rows * Ideal.ofBits .f32 0x36000000#32 := by
  funext y
  rw [← mean_scale]
  show Ideal.div (Ideal.hostReduceAdd reducesTo_S16384x32_S_d0_1 (Host.absf (cycles c s inds sg rows)) (FloatOps.ofBits .f32 0x00000000#32 : Ideal .f32) y) (Ideal.ofBits .f32 0x49000000#32) = _
  refine congrArg (fun z : EReal => Ideal.div z (Ideal.ofBits .f32 0x49000000#32)) ?_
  unfold Ideal.hostReduceAdd absTotal
  refine (congrArg (fun z : EReal => z + _) zero_word).trans ?_
  rw [zero_add, Finset.filter_true_of_mem (fun i _ => (eq_ix0 _).trans (eq_ix0 y).symm)]
  refine (sum_idx2 (n0 := 16384) (n1 := 32) _).trans ?_
  refine Finset.sum_congr rfl fun r _ => Finset.sum_congr rfl fun j _ => ?_
  exact congrArg (fun z : EReal => max z (-z)) (cycles_entry c s inds sg rows hr r j)

end Cert.ReferenceIdeal.Arctan

end
-- ==== Proof.Pre.lean ====
/-
  The precondition read as a bound: where the predicate is all ones, every index word names a column.
-/
module

public import proofs.«01_k».proof.Defs
public import proofs.«01_k».proof.Proof.Gen.Pre_indices_in_range
public import proofs.«01_k».proof.Proof.Total

@[expose] public section

noncomputable section

namespace Cert.Arctan

open Idealize.ShloMosaic Idealize.ShloMosaic.ValueIdx

/-- A one-bit word made of a truth value is set exactly where it holds. -/
theorem bit_set (b : Bool) : BitVec.ofBool b = 1#1 ↔ b = true := by cases b <;> decide

/-- The conjunction of two one-bit words is set exactly where both are. -/
theorem both_set (a b : BitVec 1) : IntOp.andi a b = 1#1 ↔ a = 1#1 ∧ b = 1#1 := by
  revert a b; decide

/-- A word that is signed at least 0 and signed below 2048 is below 2048 unsigned. -/
theorem word_lt (v : BitVec 32)
    (h : IntOp.andi (IntOp.cmpi .sge v 0#32) (IntOp.cmpi .slt v 2048#32) = 1#1) : v.toNat < 2048 := by
  obtain ⟨h0, h1⟩ := (both_set _ _).mp h
  simp only [IntOp.cmpi, bit_set, BitVec.sle_eq_decide, BitVec.slt_eq_decide, decide_eq_true_eq,
    BitVec.toInt_eq_toNat_cond, BitVec.toNat_ofNat, Nat.reducePow, Nat.reduceMod] at h0 h1
  have := v.isLt
  omega

/-- Under the precondition every index word of the kernel's arguments is in range. -/
theorem inRange_of_pre (m : (ℓ : Loc Cert.KernelIdeal.nD Cert.KernelIdeal.τ Cert.KernelIdeal.sig) → Buf (Elt Ideal) ℓ)
    (h : @Cert.Pre_KernelIdeal_indices_in_range Cert.Pre_indices_in_range.Gen.facts m) (d : Dev Cert.KernelIdeal.nD) :
    Cert.KernelIdeal.Arctan.InRange m d := by
  intro k
  have e := congrFun (h d) (ix1 k)
  simp only [Cert.Pre_indices_in_range.fn, andi, cmpi, broadcastInDim, constantI] at e
  exact word_lt _ e

end Cert.Arctan

end
-- ==== Proof.lean ====
/-
  The five claims, assembled: the three frames, the idealization of the kernel, and the equality of the kernel and
  its reference over the extended reals. The mathematics is in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_indices_in_range
public import proofs.«01_k».proof.Proof.Final
public import proofs.«01_k».proof.Proof.Total
public import proofs.«01_k».proof.Proof.Reference
public import proofs.«01_k».proof.Proof.Pre
public import Idealize.ShloMosaic.Adequacy
public import Idealize.ShloMosaic.Init

@[expose] public section

noncomputable section

namespace Cert.Proof

open Idealize.ShloMosaic Idealize.SL.Sem

/-- The reference ends with its arguments unchanged; it declares no semaphore, so every counter is zero. -/
theorem frame_reference : @Cert.quiescent_ReferenceIdeal Cert.ReferenceIdeal.Gen.facts := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Kernel and reference, from arguments that agree and whose indices are in range: the two arrays handed back are the
    arguments, and the scalar is the same extended real. -/
theorem same_results : @Cert.algebraic_KernelIdeal_ReferenceIdeal_pre_indices_in_range
    Cert.KernelIdeal.Gen.facts Cert.ReferenceIdeal.Gen.facts Cert.Pre_indices_in_range.Gen.facts := by
  intro m ρ m' ρ' hpre hagree
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c _ => Cert.KernelIdeal.Arctan.kernelScalar m c, ?_, ?_⟩
  · refine θ_run_mono (θ_run_and (Cert.KernelIdeal.Arctan.run m ρ) (Cert.KernelIdeal.Gen.frame m ρ)) ?_
    exact fun r h c => ⟨(h.1 c).1, (h.1 c).2.1, (h.1 c).2.2, h.2.1 c⟩
  · refine θ_run_mono (Cert.ReferenceIdeal.Value.run (F := Ideal) m' ρ') ?_
    intro r h c
    obtain ⟨e0, e1, e2, e3, e4⟩ := hagree c
    have hr := Cert.Arctan.inRange_of_pre m hpre c
    refine ⟨(h c).1.trans e0, (h c).2.1.trans e1, (h c).2.2.1.trans ?_, (h c).2.2.2⟩
    rw [e0, e1, e2, e3, e4]
    refine (Cert.ReferenceIdeal.Arctan.mean_eq _ _ _ _ _ hr).trans ?_
    exact funext fun _ => (Cert.KernelIdeal.Arctan.kernelScalar_eq m c hr).symm

/-- Every claim stated of the kernel and of its reference. -/
theorem claim : Cert.Claim :=
  ⟨Cert.Kernel.Gen.facts, Cert.KernelIdeal.Gen.facts, Cert.ReferenceIdeal.Gen.facts, Cert.Pre_indices_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, same_results⟩

end Cert.Proof

end
